-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def algebraic_KernelIdeal_ReferenceIdeal_on_finite_tokens [hKernelIdeal : Cert.KernelIdeal.Facts] [hReferenceIdeal : Cert.ReferenceIdeal.Facts] [hOn_finite_tokens : Cert.On_finite_tokens.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![4, 8192, 64]⟩ : Shape).Idx, (Cert.On_finite_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.KernelIdeal.nD Cert.KernelIdeal.τ).loc Cert.KernelIdeal.main_v3) i = v0 c i)
          ∧ (∀ i : (⟨3, ![4, 8192, 64]⟩ : Shape).Idx, (Cert.On_finite_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 i = 1#1 → r.2.mem ((c.tc : Thread Cert.KernelIdeal.nD Cert.KernelIdeal.τ).loc Cert.KernelIdeal.main_v4) i = v1 c i)
          ∧ (∀ i : (⟨0, ![]⟩ : Shape).Idx, (Cert.On_finite_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 i = 1#1 → r.2.mem ((c.tc : Thread Cert.KernelIdeal.nD Cert.KernelIdeal.τ).loc Cert.KernelIdeal.main_v5) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![4, 8192, 64]⟩ : Shape).Idx, (Cert.On_finite_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.ReferenceIdeal.nD Cert.ReferenceIdeal.τ).loc Cert.ReferenceIdeal.main_v14) i = v0 c i)
          ∧ (∀ i : (⟨3, ![4, 8192, 64]⟩ : Shape).Idx, (Cert.On_finite_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 i = 1#1 → r.2.mem ((c.tc : Thread Cert.ReferenceIdeal.nD Cert.ReferenceIdeal.τ).loc Cert.ReferenceIdeal.main_v3) i = v1 c i)
          ∧ (∀ i : (⟨0, ![]⟩ : Shape).Idx, (Cert.On_finite_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 i = 1#1 → r.2.mem ((c.tc : Thread Cert.ReferenceIdeal.nD Cert.ReferenceIdeal.τ).loc Cert.ReferenceIdeal.main_v20) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts) (hOn_finite_tokens : Cert.On_finite_tokens.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ algebraic_KernelIdeal_ReferenceIdeal_on_finite_tokens (hKernelIdeal := hKernelIdeal) (hReferenceIdeal := hReferenceIdeal) (hOn_finite_tokens := hOn_finite_tokens)
-- ==== On_finite_tokens.lean ====
abbrev S4x8192x4096 : Shape := ⟨3, ![4, 8192, 4096]⟩
abbrev S_ : Shape := ⟨0, ![]⟩
abbrev S4096x64 : Shape := ⟨2, ![4096, 64]⟩
abbrev S64 : Shape := ⟨1, ![64]⟩
abbrev S4x8192 : Shape := ⟨2, ![4, 8192]⟩
abbrev S4x8192x1 : Shape := ⟨3, ![4, 8192, 1]⟩
abbrev S4x8192x64 : Shape := ⟨3, ![4, 8192, 64]⟩

class Facts : Prop where
  bcast_S_S4x8192x4096 : S_.BroadcastsInDim S4x8192x4096 (![] : Fin 0 → Fin S4x8192x4096.rank)
  reducesTo_S4x8192x4096_S4x8192_d2 : S4x8192x4096.ReducesTo [2] S4x8192
  h_S_ : 0 < S_.numel
  bcast_S_S4096x64 : S_.BroadcastsInDim S4096x64 (![] : Fin 0 → Fin S4096x64.rank)
  reducesTo_S4096x64_S_d0_1 : S4096x64.ReducesTo [0, 1] S_
  bcast_S_S64 : S_.BroadcastsInDim S64 (![] : Fin 0 → Fin S64.rank)
  reducesTo_S64_S_d0 : S64.ReducesTo [0] S_
  bcast_S_S4x8192 : S_.BroadcastsInDim S4x8192 (![] : Fin 0 → Fin S4x8192.rank)
  bcast_S4x8192_S4x8192x1_0_1 : S4x8192.BroadcastsInDim S4x8192x1 (![0, 1] : Fin 2 → Fin S4x8192x1.rank)
  bcast_S4x8192x1_S4x8192x64_0_1_2 : S4x8192x1.BroadcastsInDim S4x8192x64 (![0, 1, 2] : Fin 3 → Fin S4x8192x64.rank)
  bcast_S_S4x8192x64 : S_.BroadcastsInDim S4x8192x64 (![] : Fin 0 → Fin S4x8192x64.rank)

variable [Facts]

def fn_part1 {F : FTy → Type} [FloatOps F] (main_v16 : IVec S4x8192x64 1) (main_c_4 : IVec S_ 1) : IVec S4x8192x64 1 × IVec S4x8192x64 1 × IVec S_ 1 :=
  let main_v17 : IVec S4x8192x64 1 := broadcastInDim S4x8192x64 ![] bcast_S_S4x8192x64 main_c_4
  let main_c_5 : IVec S_ 1 := constantI S_ 1 1#1
  (main_v16, main_v17, main_c_5)

def fn {F : FTy → Type} [FloatOps F] (main_arg0 : FVec F S4x8192x4096 .f32) (main_arg1 : IVec S_ 32) (main_arg2 : FVec F S4096x64 .f32) (main_arg3 : FVec F S64 .f32) : IVec S4x8192x64 1 × IVec S4x8192x64 1 × IVec S_ 1 :=
  let main_v0 : FVec F S4x8192x4096 .f32 := Host.absf main_arg0
  let main_cst : FVec F S_ .f32 := constant S_ .f32 0x7F800000#32
  let main_v1 : FVec F S4x8192x4096 .f32 := broadcastInDim S4x8192x4096 ![] bcast_S_S4x8192x4096 main_cst
  let main_v2 : IVec S4x8192x4096 1 := cmpf .olt main_v0 main_v1
  let main_c : IVec S_ 1 := constantI S_ 1 1#1
  let main_v3 : IVec S4x8192 1 := (fun x v => Host.reduce IntOp.andi x v reducesTo_S4x8192x4096_S4x8192_d2 h_S_) main_v2 main_c
  let main_v4 : FVec F S4096x64 .f32 := Host.absf main_arg2
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : FVec F S64 .f32 := Host.absf main_arg3
  let main_cst_2 : FVec F S_ .f32 := constant S_ .f32 0x7F800000#32
  let main_v9 : FVec F S64 .f32 := broadcastInDim S64 ![] bcast_S_S64 main_cst_2
  let main_v10 : IVec S64 1 := cmpf .olt main_v8 main_v9
  let main_c_3 : IVec S_ 1 := constantI S_ 1 1#1
  let main_v11 : IVec S_ 1 := (fun x v => Host.reduce IntOp.andi x v reducesTo_S64_S_d0 h_S_) main_v10 main_c_3
  let main_v12 : IVec S_ 1 := andi main_v7 main_v11
  let main_v13 : IVec S4x8192 1 := broadcastInDim S4x8192 ![] bcast_S_S4x8192 main_v12
  let main_v14 : IVec S4x8192 1 := andi main_v3 main_v13
  let main_v15 : IVec S4x8192x1 1 := broadcastInDim S4x8192x1 ![0, 1] bcast_S4x8192_S4x8192x1_0_1 main_v14
  let main_v16 : IVec S4x8192x64 1 := broadcastInDim S4x8192x64 ![0, 1, 2] bcast_S4x8192x1_S4x8192x64_0_1_2 main_v15
  let main_c_4 : IVec S_ 1 := constantI S_ 1 1#1
  fn_part1 (F := F) main_v16 main_c_4
-- ==== Pre_finite_inputs.lean ====
abbrev S4x8192x4096 : Shape := ⟨3, ![4, 8192, 4096]⟩
abbrev S_ : Shape := ⟨0, ![]⟩
abbrev S4096x64 : Shape := ⟨2, ![4096, 64]⟩
abbrev S64 : Shape := ⟨1, ![64]⟩

class Facts : Prop where
  bcast_S_S4x8192x4096 : S_.BroadcastsInDim S4x8192x4096 (![] : Fin 0 → Fin S4x8192x4096.rank)
  reducesTo_S4x8192x4096_S_d0_1_2 : S4x8192x4096.ReducesTo [0, 1, 2] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S4x8192x4096 .f32) (main_arg1 : IVec S_ 32) (main_arg2 : FVec F S4096x64 .f32) (main_arg3 : FVec F S64 .f32) : IVec S_ 1 :=
  let main_v0 : FVec F S4x8192x4096 .f32 := Host.absf main_arg0
  let main_cst : FVec F S_ .f32 := constant S_ .f32 0x7F800000#32
  let main_v1 : FVec F S4x8192x4096 .f32 := broadcastInDim S4x8192x4096 ![] bcast_S_S4x8192x4096 main_cst
  let main_v2 : IVec S4x8192x4096 1 := cmpf .olt main_v0 main_v1
  let main_c : IVec S_ 1 := constantI S_ 1 1#1
  let main_v3 : IVec S_ 1 := (fun x v => Host.reduce IntOp.andi x v reducesTo_S4x8192x4096_S_d0_1_2 h_S_) main_v2 main_c
  let main_v4 : FVec F S4096x64 .f32 := Host.absf main_arg2
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S4x8192x4096 : Shape := ⟨3, ![4, 8192, 4096]⟩
abbrev S_ : Shape := ⟨0, ![]⟩
abbrev S4096x64 : Shape := ⟨2, ![4096, 64]⟩
abbrev S64 : Shape := ⟨1, ![64]⟩
abbrev S64x4096 : Shape := ⟨2, ![64, 4096]⟩
abbrev S64x1 : Shape := ⟨2, ![64, 1]⟩
abbrev S4x64x8192 : Shape := ⟨3, ![4, 64, 8192]⟩
abbrev S1 : Shape := ⟨1, ![1]⟩
abbrev S1x512x4096 : Shape := ⟨3, ![1, 512, 4096]⟩
abbrev S1x64x1024 : Shape := ⟨3, ![1, 64, 1024]⟩
abbrev S512x4096 : Shape := ⟨2, ![512, 4096]⟩
abbrev S64x512 : Shape := ⟨2, ![64, 512]⟩
abbrev S64x1024 : Shape := ⟨2, ![64, 1024]⟩
abbrev S1024 : Shape := ⟨1, ![1024]⟩
abbrev S1x1024 : Shape := ⟨2, ![1, 1024]⟩
abbrev S1x1x1024 : Shape := ⟨3, ![1, 1, 1024]⟩
abbrev S1x1x1 : Shape := ⟨3, ![1, 1, 1]⟩
abbrev S4x8192x64 : Shape := ⟨3, ![4, 8192, 64]⟩

abbrev nBuf : Space → Nat
  | .hbm => 12
  | .vmem => 10
  | .smem => 1
  | _ => 0

abbrev bufTy : (tb : Table) → Fin (tcTables nBuf tb) → BufTy
  | .hbm, ⟨0, _⟩ => ⟨S4x8192x4096, .f32⟩
  | .hbm, ⟨1, _⟩ => ⟨S_, .i32⟩
  | .hbm, ⟨2, _⟩ => ⟨S4096x64, .f32⟩
  | .hbm, ⟨3, _⟩ => ⟨S64, .f32⟩
  | .hbm, ⟨4, _⟩ => ⟨S64x4096, .f32⟩
  | .hbm, ⟨5, _⟩ => ⟨S64x1, .f32⟩
  | .hbm, ⟨6, _⟩ => ⟨S4x64x8192, .f32⟩
  | .hbm, ⟨7, _⟩ => ⟨S4x64x8192, .f32⟩
  | .hbm, ⟨8, _⟩ => ⟨S1, .f32⟩
  | .hbm, ⟨9, _⟩ => ⟨S4x8192x64, .f32⟩
  | .hbm, ⟨10, _⟩ => ⟨S4x8192x64, .f32⟩
  | .hbm, ⟨11, _⟩ => ⟨S_, .f32⟩
  | .local _ .vmem, ⟨0, _⟩ => ⟨S1x512x4096, .f32⟩
  | .local _ .vmem, ⟨1, _⟩ => ⟨S1x512x4096, .f32⟩
  | .local _ .vmem, ⟨2, _⟩ => ⟨S1x512x4096, .f32⟩
  | .local _ .vmem, ⟨3, _⟩ => ⟨S1x512x4096, .f32⟩
  | .local _ .vmem, ⟨4, _⟩ => ⟨S64x4096, .f32⟩
  | .local _ .vmem, ⟨5, _⟩ => ⟨S64x1, .f32⟩
  | .local _ .vmem, ⟨6, _⟩ => ⟨S1x64x1024, .f32⟩
  | .local _ .vmem, ⟨7, _⟩ => ⟨S1x64x1024, .f32⟩
  | .local _ .vmem, ⟨8, _⟩ => ⟨S1x64x1024, .f32⟩
  | .local _ .vmem, ⟨9, _⟩ => ⟨S1x64x1024, .f32⟩
  | .local _ .smem, ⟨0, _⟩ => ⟨S1, .f32⟩
  | _, _ => ⟨S4x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  ![arg0.toNat, v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== ReferenceIdeal.lean ====
abbrev S4x8192x4096 : Shape := ⟨3, ![4, 8192, 4096]⟩
abbrev S_ : Shape := ⟨0, ![]⟩
abbrev S4096x64 : Shape := ⟨2, ![4096, 64]⟩
abbrev S64 : Shape := ⟨1, ![64]⟩
abbrev S4x8192x64 : Shape := ⟨3, ![4, 8192, 64]⟩
abbrev S1x1x64 : Shape := ⟨3, ![1, 1, 64]⟩
abbrev S4x8192 : Shape := ⟨2, ![4, 8192]⟩
abbrev S4x8192x1 : Shape := ⟨3, ![4, 8192, 1]⟩

abbrev nBuf : Space → Nat
  | .hbm => 31
  | .vmem => 0
  | .smem => 0
  | _ => 0

abbrev bufTy : (tb : Table) → Fin (tcTables nBuf tb) → BufTy
  | .hbm, ⟨0, _⟩ => ⟨S4x8192x4096, .f32⟩
  | .hbm, ⟨1, _⟩ => ⟨S_, .i32⟩
  | .hbm, ⟨2, _⟩ => ⟨S4096x64, .f32⟩
  | .hbm, ⟨3, _⟩ => ⟨S64, .f32⟩
  | .hbm, ⟨4, _⟩ => ⟨S4x8192x64, .f32⟩
  | .hbm, ⟨5, _⟩ => ⟨S1x1x64, .f32⟩
  | .hbm, ⟨6, _⟩ => ⟨S4x8192x64, .f32⟩
  | .hbm, ⟨7, _⟩ => ⟨S4x8192x64, .f32⟩
  | .hbm, ⟨8, _⟩ => ⟨S_, .f32⟩
  | .hbm, ⟨9, _⟩ => ⟨S4x8192, .f32⟩
  | .hbm, ⟨10, _⟩ => ⟨S_, .f32⟩
  | .hbm, ⟨11, _⟩ => ⟨S4x8192, .f32⟩
  | .hbm, ⟨12, _⟩ => ⟨S4x8192, .f32⟩
  | .hbm, ⟨13, _⟩ => ⟨S4x8192x1, .f32⟩
  | .hbm, ⟨14, _⟩ => ⟨S4x8192x64, .f32⟩
  | .hbm, ⟨15, _⟩ => ⟨S4x8192x64, .f32⟩
  | .hbm, ⟨16, _⟩ => ⟨S4x8192x64, .f32⟩
  | .hbm, ⟨17, _⟩ => ⟨S_, .f32⟩
  | .hbm, ⟨18, _⟩ => ⟨S4x8192, .f32⟩
  | .hbm, ⟨19, _⟩ => ⟨S4x8192x1, .f32⟩
  | .hbm, ⟨20, _⟩ => ⟨S4x8192x64, .f32⟩
  | .hbm, ⟨21, _⟩ => ⟨S4x8192x64, .f32⟩
  | .hbm, ⟨22, _⟩ => ⟨S4x8192x64, .f32⟩
  | .hbm, ⟨23, _⟩ => ⟨S_, .f32⟩
  | .hbm, ⟨24, _⟩ => ⟨S4x8192, .f32⟩
  | .hbm, ⟨25, _⟩ => ⟨S4x8192, .f32⟩
  | .hbm, ⟨26, _⟩ => ⟨S4x8192, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S4x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Proof.Arith.lean ====
/- Arithmetic over the extended reals for one token's router logits `L : Fin 64 → EReal`: the greatest logit, the softmax
   quotient written two ways, and the squared log-sum-exp written two ways. No program is mentioned here. -/
module

public import Idealize.ShloMosaic.PureOps.Ideal
public import Idealize.ShloMosaic.Lib.IdealHost

@[expose] public section

noncomputable section

namespace Cert.Router

open Idealize.ShloMosaic

/-- The greatest of a token's logits. -/
def top (L : Fin 64 → EReal) : EReal := Finset.univ.fold max ⊥ L

/-- The sum of the exponentials of the logits less their greatest. -/
def shiftSum (L : Fin 64 → EReal) : EReal := ∑ e, Ideal.exp (L e - top L)

/-- The logarithm of the sum of the exponentials of the logits. -/
def logZ (L : Fin 64 → EReal) : EReal := Ideal.log (∑ e, Ideal.exp (L e))

/-- Softmax: an exponential over the sum of the exponentials, both less the greatest logit. -/
def prob (L : Fin 64 → EReal) (e : Fin 64) : EReal := Ideal.div (Ideal.exp (L e - top L)) (shiftSum L)

theorem exp_coe (r : ℝ) : Ideal.exp (r : EReal) = (Real.exp r : EReal) := rfl
theorem exp_bot : Ideal.exp ⊥ = 0 := rfl
theorem exp_top : Ideal.exp ⊤ = ⊤ := rfl
theorem log_bot : Ideal.log ⊥ = ⊥ := rfl
theorem log_top : Ideal.log ⊤ = ⊤ := rfl
theorem log_coe_pos {r : ℝ} (h : 0 < r) : Ideal.log (r : EReal) = (Real.log r : EReal) := if_neg (not_le.2 h)
theorem log_zero : Ideal.log 0 = ⊥ := if_pos (le_refl (0 : ℝ))

/-- An exponential is never negative. -/
theorem exp_nonneg (x : EReal) : 0 ≤ Ideal.exp x := by
  induction x with
  | bot => exact le_of_eq exp_bot.symm
  | top => exact exp_top ▸ le_top
  | coe r => rw [exp_coe]; exact_mod_cast (Real.exp_pos r).le

/-- A product of a value with itself is never negative. -/
theorem sq_nonneg (x : EReal) : 0 ≤ x * x := by
  induction x with
  | bot => simp
  | top => simp
  | coe r => exact_mod_cast mul_self_nonneg r

/-- A finite sum of real numbers is the same taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greatest logit bounds each of them. -/
theorem le_top_of (L : Fin 64 → EReal) (e : Fin 64) : L e ≤ top L :=
  (Finset.le_fold_max (c := L e)).2 (.inr ⟨e, Finset.mem_univ e, le_rfl⟩)

/-- The greatest logit is one of them. -/
theorem exists_eq_top (L : Fin 64 → EReal) : ∃ e, L e = top L := by
  have h : top L ≤ top L := le_rfl
  rcases (Finset.le_fold_max (c := top L)).1 h with h | ⟨e, -, h⟩
  · exact ⟨0, le_antisymm (le_top_of L 0) (le_trans h bot_le)⟩
  · exact ⟨e, le_antisymm (le_top_of L e) h⟩

/-- With real logits the shifted sum is not zero: one of its terms is `exp 0 = 1`. -/
theorem shiftSum_ne_zero (L : Fin 64 → EReal) (hL : ∀ e, ∃ r : ℝ, L e = r) : shiftSum L ≠ 0 := by
  obtain ⟨e, he⟩ := exists_eq_top L
  obtain ⟨r, hr⟩ := hL e
  intro h0
  have h1 := (Finset.sum_eq_zero_iff_of_nonneg fun i _ => exp_nonneg (L i - top L)).1 h0 e (Finset.mem_univ e)
  rw [← he, hr, ← EReal.coe_sub, exp_coe] at h1
  exact (Real.exp_pos _).ne' (by exact_mod_cast h1)

/-- THE SOFTMAX QUOTIENT: with real logits, multiplying by the sum's reciprocal is dividing by the sum. -/
theorem mul_recip_eq_prob (L : Fin 64 → EReal) (hL : ∀ e, ∃ r : ℝ, L e = r) (e : Fin 64) :
    Ideal.exp (L e - top L) * Ideal.div 1 (shiftSum L) = prob L e :=
  Idealize.ShloMosaic.Ideal.mul_one_div (shiftSum_ne_zero L hL)

/-- THE SQUARED LOG-SUM-EXP: shifting the logits by their greatest before the exponentials and adding it back after the
    logarithm does not change the square, infinite logits included. -/
theorem shifted_sq_eq (L : Fin 64 → EReal) :
    (Ideal.log (shiftSum L) + top L) * (Ideal.log (shiftSum L) + top L) = logZ L * logZ L := by
  obtain ⟨e₀, he₀⟩ := exists_eq_top L
  have hle := le_top_of L
  unfold shiftSum logZ
  generalize top L = M at *
  induction M with
  | bot =>
    have hb : ∀ e, L e = ⊥ := fun e => le_bot_iff.1 (hle e)
    simp [hb, exp_bot, log_zero]
  | top =>
    have h0 : ∀ e, Ideal.exp (L e - ⊤) = 0 := fun e => by rw [EReal.sub_top, exp_bot]
    have h1 : ∑ e, Ideal.exp (L e) = ⊤ := by
      apply top_le_iff.1
      calc (⊤ : EReal) = Ideal.exp (L e₀) := by rw [he₀, exp_top]
        _ ≤ _ := Finset.single_le_sum (f := fun e => Ideal.exp (L e)) (fun e _ => exp_nonneg (L e)) (Finset.mem_univ e₀)
    simp [h0, h1, log_zero, log_top]
  | coe M =>
    -- each exponential is a real number, and the shift multiplies it by `exp M`
    have hx : ∀ e, ∃ y : ℝ, 0 ≤ y ∧ Ideal.exp (L e - (M : EReal)) = (y : EReal) ∧ Ideal.exp (L e) = ((y * Real.exp M : ℝ) : EReal) := by
      intro e
      have h := hle e
      generalize L e = x at h
      induction x with
      | bot => exact ⟨0, le_rfl, by simp [exp_bot], by simp [exp_bot]⟩
      | top => exact absurd (top_le_iff.1 h) (EReal.coe_ne_top M)
      | coe r =>
        refine ⟨Real.exp (r - M), (Real.exp_pos _).le, ?_, ?_⟩
        · rw [← EReal.coe_sub, exp_coe]
        · rw [exp_coe, ← Real.exp_add, sub_add_cancel]
    choose y hy0 hy1 hy2 using hx
    have hy : 0 < y e₀ := by
      have h := hy1 e₀
      rw [he₀, ← EReal.coe_sub, exp_coe, EReal.coe_eq_coe_iff] at h
      rw [← h]; exact Real.exp_pos _
    have hs : 0 < ∑ e, y e := Finset.sum_pos' (fun e _ => hy0 e) ⟨e₀, Finset.mem_univ e₀, hy⟩
    have e1 : ∑ e, Ideal.exp (L e - (M : EReal)) = ((∑ e, y e : ℝ) : EReal) := by
      rw [Finset.sum_congr rfl fun e _ => hy1 e, coe_sum]
    have e2 : ∑ e, Ideal.exp (L e) = (((∑ e, y e) * Real.exp M : ℝ) : EReal) := by
      rw [Finset.sum_congr rfl fun e _ => hy2 e, Finset.sum_mul, coe_sum]
    have hl : Ideal.log ((∑ e, y e : ℝ) : EReal) + (M : EReal) = Ideal.log (((∑ e, y e) * Real.exp M : ℝ) : EReal) := by
      rw [log_coe_pos hs, log_coe_pos (mul_pos hs (Real.exp_pos M)), Real.log_mul hs.ne' (Real.exp_pos M).ne',
        Real.log_exp, EReal.coe_add]
    rw [e1, e2, hl]

/-- A sum of nonnegative values, each times a constant, is the sum times the constant. -/
theorem sum_mul_const {ι : Type} (s : Finset ι) (f : ι → EReal) (hf : ∀ i, 0 ≤ f i) (k : EReal) :
    ∑ i ∈ s, f i * k = (∑ i ∈ s, f i) * k := by
  classical
  induction s using Finset.induction_on with
  | empty => simp
  | insert a s ha ih =>
    rw [Finset.sum_insert ha, Finset.sum_insert ha, ih,
      EReal.right_distrib_of_nonneg (hf a) (Finset.sum_nonneg fun i _ => hf i)]

/-- The word of 2⁻¹⁵ and the word of 2¹⁵ name a number and its reciprocal: multiplying by the first is dividing by the
    second. -/
theorem mul_word_eq_div_word (x : EReal) :
    x * Ideal.ofBits .f32 0x38000000#32 = Ideal.div x (Ideal.ofBits .f32 0x47000000#32) := by
  have h1 : Ideal.ofBits .f32 0x38000000#32 = ((1 / 32768 : ℝ) : EReal) := by
    simp [Ideal.ofBits, Ideal.ieee]; rw [← EReal.coe_mul]; norm_num
  have h2 : Ideal.ofBits .f32 0x47000000#32 = ((32768 : ℝ) : EReal) := by
    simp [Ideal.ofBits, Ideal.ieee]; rw [← EReal.coe_mul]; norm_num
  rw [h1, h2, Ideal.div_coe (by norm_num)]

/-- The word of zero is zero. -/
theorem word_zero : Ideal.ofBits .f32 0x00000000#32 = 0 := by simp [Ideal.ofBits, Ideal.ieee]

/-- The word of −∞ is the least extended real. -/
theorem word_neg_inf : Ideal.ofBits .f32 0xFF800000#32 = ⊥ := by simp [Ideal.ofBits, Ideal.ieee]

/-- The word of +∞ is the greatest extended real. -/
theorem word_inf : Ideal.ofBits .f32 0x7F800000#32 = ⊤ := by simp [Ideal.ofBits, Ideal.ieee]

end Cert.Router

end
-- ==== Proof.Block.lean ====
/- What one grid point computes from its blocks: the transposed weights `w`, two blocks `xa`, `xb` of 512 tokens each, and
   the bias column `b`. Column `i` of the point's block belongs to token `i` of the 1024. -/
module

public import proofs.«01_k».proof.Proof.Arith
public import proofs.«01_k».proof.Proof.Gen.KernelIdeal.Skeleton
public import Idealize.ShloMosaic.Lib.Pointwise

@[expose] public section

set_option maxRecDepth 16384

noncomputable section

namespace Cert.KernelIdeal.Block

open Idealize.ShloMosaic Idealize.ShloMosaic.TcCoe
open Cert.KernelIdeal Cert.KernelIdeal.Gen Cert.Router

variable (w : Vec Ideal S64x4096 .f32) (xa xb : Vec Ideal S1x512x4096 .f32) (b : Vec Ideal S64x1 .f32)

/-- The 64 logits of the block's token `i`. -/
def col (i : Fin 1024) (e : Fin 64) : EReal := k0_pay2 (F := Ideal) w xa w xb b (ix2 e i)

/-- A logit is the product of a weight row with a token of the first block or of the second, plus the bias. -/
theorem col_eq (i : Fin 1024) (e : Fin 64) :
    col w xa xb b i e = (if h : i.val < 512 then ∑ k : Fin 4096, w (ix2 e k) * xa (ix3 0 ⟨i.val, h⟩ k)
      else ∑ k : Fin 4096, w (ix2 e k) * xb (ix3 0 ⟨i.val - 512, by omega⟩ k)) + b (ix2 e 0) := by
  unfold col k0_pay2
  pointwise

/-- The stored logits block holds the logits. -/
theorem logits_apply (u : Fin 1) (e : Fin 64) (i : Fin 1024) :
    k0_pay3 (F := Ideal) w xa w xb b (ix3 u e i) = col w xa xb b i e := by
  unfold k0_pay3 col
  pointwise

/-- The maximum row holds each token's greatest logit. -/
theorem max_apply (u : Fin 1) (i : Fin 1024) : k0_pay4 (F := Ideal) w xa w xb b (ix2 u i) = top (col w xa xb b i) := by
  unfold k0_pay4 top
  pointwise
  rw [word_neg_inf]
  rfl

/-- The exponentials are of the logits less the token's greatest. -/
theorem exp_apply (e : Fin 64) (i : Fin 1024) :
    k0_pay5 (F := Ideal) w xa w xb b (ix2 e i) = Ideal.exp (col w xa xb b i e - top (col w xa xb b i)) := by
  rw [← max_apply w xa xb b 0 i]
  unfold k0_pay5 col
  pointwise

/-- The sum row holds each token's sum of exponentials. -/
theorem sum_apply (u : Fin 1) (i : Fin 1024) : k0_pay6 (F := Ideal) w xa w xb b (ix2 u i) = shiftSum (col w xa xb b i) := by
  unfold k0_pay6 shiftSum
  pointwise
  exact Finset.sum_congr rfl fun e _ => exp_apply w xa xb b e i

/-- The stored probabilities block holds each exponential times the reciprocal of its token's sum. -/
theorem probs_apply (u : Fin 1) (e : Fin 64) (i : Fin 1024) :
    k0_pay7 (F := Ideal) w xa w xb b (ix3 u e i)
      = Ideal.exp (col w xa xb b i e - top (col w xa xb b i)) * Ideal.div 1 (shiftSum (col w xa xb b i)) := by
  rw [← exp_apply w xa xb b e i, ← sum_apply w xa xb b 0 i]
  unfold k0_pay7
  pointwise

/-- The logarithm row holds the logarithm of each token's sum. -/
theorem log_apply (u : Fin 1) (i : Fin 1024) :
    k0_pay8 (F := Ideal) w xa w xb b (ix2 u i) = Ideal.log (shiftSum (col w xa xb b i)) := by
  rw [← sum_apply w xa xb b u i]
  unfold k0_pay8
  pointwise

/-- What a point adds to the router z-loss. -/
def part : EReal :=
  (∑ i : Fin 1024, logZ (col w xa xb b i) * logZ (col w xa xb b i)) * Ideal.ofBits .f32 0x38000000#32

/-- The stored z-loss is the one before plus the point's part. -/
theorem zloss_apply (s : EReal) :
    k0_pay1 (F := Ideal) (k0_pay4 w xa w xb b) (k0_pay8 w xa w xb b) s = s + part w xa xb b := by
  unfold k0_pay1 part
  pointwise
  congr 2
  rw [Fin.sum_univ_one]
  refine Finset.sum_congr rfl fun i _ => ?_
  rw [log_apply, max_apply]
  exact shifted_sq_eq _

end Cert.KernelIdeal.Block

end
-- ==== Proof.Points.lean ====
/- What each grid point leaves in the three output blocks, over the blocks it reads: the probabilities and the logits of
   its 1024 tokens, and the z-loss accumulated so far. -/
module

public import proofs.«01_k».proof.Proof.Block
public import proofs.«01_k».proof.Proof.Gen.KernelIdeal.Frame
public import Idealize.ShloMosaic.Lib.Pipeline.ValueKit

@[expose] public section

set_option maxRecDepth 16384

noncomputable section

namespace Cert.KernelIdeal.Points

open Idealize.ShloMosaic Idealize.ShloMosaic.TcCoe Idealize.SL.Sem
open Cert.KernelIdeal Cert.KernelIdeal.Gen

variable (m : (ℓ : Loc nD τ sig) → Buf (Elt Ideal) ℓ)

/-- Point `t` leaves the probabilities of its blocks. -/
theorem probs_after (c : Dev nD) (t : Fin cfg0.N) :
    (outsAt0 m c t.val t.isLt).1
      = k0_pay7 (F := Ideal) (iblk m c 2 t) (iblk m c 0 t) (iblk m c 2 t) (iblk m c 1 t) (iblk m c 3 t) := by
  rcases Decidable.em (t.val % 32 = 0) with h | h
  · rw [outsAt0_A m c t h]
    frame_out
  · rw [outsAt0_B m c t h]
    frame_out

/-- Point `t` leaves the logits of its blocks. -/
theorem logits_after (c : Dev nD) (t : Fin cfg0.N) :
    (outsAt0 m c t.val t.isLt).2.1
      = k0_pay3 (F := Ideal) (iblk m c 2 t) (iblk m c 0 t) (iblk m c 2 t) (iblk m c 1 t) (iblk m c 3 t) := by
  rcases Decidable.em (t.val % 32 = 0) with h | h
  · rw [outsAt0_A m c t h]
    frame_out
  · rw [outsAt0_B m c t h]
    frame_out

/-- The addend of point `t` to the z-loss. -/
def part (c : Dev nD) (t : Fin cfg0.N) : EReal :=
  Block.part (iblk m c 2 t) (iblk m c 0 t) (iblk m c 1 t) (iblk m c 3 t)

/-- The first point leaves its own addend. -/
theorem zloss_first (c : Dev nD) (t : Fin cfg0.N) (h : t.val % 32 = 0) (j : S1.Idx) :
    (outsAt0 m c t.val t.isLt).2.2 j = 0 + part m c t := by
  rw [outsAt0_A m c t h]
  frame_out
  rw [Block.zloss_apply, show (FloatOps.ofBits .f32 0#32 : Ideal .f32) = 0 by exact Router.word_zero]
  rfl

/-- Every later point adds its addend to what the point before left. -/
theorem zloss_later (c : Dev nD) (t : Fin cfg0.N) (h : ¬t.val % 32 = 0) (j : S1.Idx) :
    (outsAt0 m c t.val t.isLt).2.2 j
      = (outsAt0 m c (t.val - 1) (Nat.lt_of_le_of_lt (Nat.sub_le _ _) t.isLt)).2.2 j + part m c t := by
  rw [outsAt0_B m c t h]
  frame_out
  rw [Block.zloss_apply]
  generalize (outsAt0 m c (t.val - 1) _).2.2 = z
  exact congrArg (fun y => z y + part m c t) (funext fun a => match a with | ⟨0, _⟩ => Subsingleton.elim (α := Fin 1) _ _)

end Cert.KernelIdeal.Points

end
-- ==== Proof.Spec.lean ====
/- The router's mathematics over its argument arrays: tokens `x`, weights `w`, bias `b`. -/
module

public import proofs.«01_k».proof.Proof.Arith
public import Idealize.ShloMosaic.Lib.Pointwise

@[expose] public section

noncomputable section

namespace Cert.Router

open Idealize.ShloMosaic

variable (x : (⟨3, ![4, 8192, 4096]⟩ : Shape).Idx → EReal) (w : (⟨2, ![4096, 64]⟩ : Shape).Idx → EReal)
  (b : (⟨1, ![64]⟩ : Shape).Idx → EReal)

/-- The logit of expert `e` for token `t` of group `g`. -/
def logit (g : Fin 4) (t : Fin 8192) (e : Fin 64) : EReal := ∑ k : Fin 4096, x (ix3 g t k) * w (ix2 k e) + b (ix1 e)

/-- The mean over all tokens of the squared log-sum-exp of their logits. -/
def zLoss : EReal :=
  Ideal.div (∑ g : Fin 4, ∑ t : Fin 8192, logZ (logit x w b g t) * logZ (logit x w b g t)) (Ideal.ofBits .f32 0x47000000#32)

/-- A value that is neither infinity is a real number. -/
theorem exists_real {y : EReal} (h1 : y ≠ ⊥) (h2 : y ≠ ⊤) : ∃ r : ℝ, y = r := ⟨y.toReal, (EReal.coe_toReal h2 h1).symm⟩

/-- A token with real entries, real weights and a real bias has real logits. -/
theorem logit_real (g : Fin 4) (t : Fin 8192) (hx : ∀ k, ∃ r : ℝ, x (ix3 g t k) = r) (hw : ∀ k e, ∃ r : ℝ, w (ix2 k e) = r)
    (hb : ∀ e, ∃ r : ℝ, b (ix1 e) = r) (e : Fin 64) : ∃ r : ℝ, logit x w b g t e = r := by
  choose x' hx' using hx
  choose w' hw' using hw
  choose b' hb' using hb
  refine ⟨∑ k, x' k * w' k e + b' e, ?_⟩
  unfold logit
  rw [EReal.coe_add, coe_sum, hb', Finset.sum_congr rfl fun k _ => by rw [hx', hw', ← EReal.coe_mul]]

end Cert.Router

end
-- ==== Proof.Geometry.lean ====
/- Where the grid's blocks lie in the kernel's arrays, and the point's columns of logits over the argument arrays. -/
module

public import proofs.«01_k».proof.Proof.Spec
public import proofs.«01_k».proof.Proof.Block
public import proofs.«01_k».proof.Proof.Gen.KernelIdeal.Frame
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Geometry

open Idealize.ShloMosaic Idealize.ShloMosaic.TcCoe Idealize.SL.Sem
open Cert.KernelIdeal Cert.KernelIdeal.Gen Cert.Router

variable (m : (ℓ : Loc nD τ sig) → Buf (Elt Ideal) ℓ)

/-- The block indices of the windows at grid point `t`: group `t / 8`, token block `t % 8`. -/
theorem idx : ∀ t : Fin cfg0.N,
    win0_0.index t = ![t.val / 8, 2 * (t.val % 8), 0] ∧ win0_1.index t = ![t.val / 8, 2 * (t.val % 8) + 1, 0]
      ∧ win0_2.index t = ![0, 0] ∧ win0_3.index t = ![0, 0]
      ∧ win0_4.index t = ![t.val / 8, 0, t.val % 8] ∧ win0_5.index t = ![t.val / 8, 0, t.val % 8] :=
  (by decide +kernel : ∀ t : Fin grid0.N, _)

/-- The token arrays, the weights and the bias, as the argument arrays hold them. -/
abbrev X (c : Dev nD) := m ((c.tc : Thread nD τ).loc main_arg0)
abbrev W (c : Dev nD) := m ((c.tc : Thread nD τ).loc main_arg2)
abbrev B (c : Dev nD) := m ((c.tc : Thread nD τ).loc main_arg3)

/-- The transposed weights, when the grid starts. -/
theorem V_weights (c : Dev nD) (e : Fin 64) (k : Fin 4096) : V m c main_v0 (ix2 e k) = W m c (ix2 k e) := by
  rw [show V m c main_v0 = transpose S64x4096 [1, 0] (W m c) transposes_S4096x64_S64x4096_1_0 by
    unfold V V0; simp only [List.flatten_cons, List.flatten_nil, List.append_nil]; after_results]
  pointwise

/-- The bias column, when the grid starts. -/
theorem V_bias (c : Dev nD) (e : Fin 64) : V m c main_v1 (ix2 e 0) = B m c (ix1 e) := by
  rw [show V m c main_v1 = broadcastInDim S64x1 ![0] bcast_S64_S64x1_0 (B m c) by
    unfold V V0; simp only [List.flatten_cons, List.flatten_nil, List.append_nil]; after_results]
  pointwise

/-- The point's first token block: tokens `1024 (t % 8) + i`. -/
theorem blk0 (c : Dev nD) (t : Fin cfg0.N) (i : Fin 512) (k : Fin 4096) (g : Fin 4) (l : Fin 8192)
    (hg : g.val = t.val / 8) (hl : l.val = t.val % 8 * 1024 + i.val) :
    iblk m c 0 t (ix3 0 i k) = X m c (ix3 g l k) := by
  blk_ext [iblk, V, idx t]

/-- The point's second token block: tokens `1024 (t % 8) + 512 + i`. -/
theorem blk1 (c : Dev nD) (t : Fin cfg0.N) (i : Fin 512) (k : Fin 4096) (g : Fin 4) (l : Fin 8192)
    (hg : g.val = t.val / 8) (hl : l.val = t.val % 8 * 1024 + 512 + i.val) :
    iblk m c 1 t (ix3 0 i k) = X m c (ix3 g l k) := by
  blk_ext [iblk, V, idx t]

/-- Every point reads all the weights. -/
theorem blk2 (c : Dev nD) (t : Fin cfg0.N) (e : Fin 64) (k : Fin 4096) : iblk m c 2 t (ix2 e k) = W m c (ix2 k e) := by
  refine Eq.trans ?_ (V_weights m c e k)
  blk_ext [iblk, idx t]

/-- Every point reads all the bias. -/
theorem blk3 (c : Dev nD) (t : Fin cfg0.N) (e : Fin 64) : iblk m c 3 t (ix2 e 0) = B m c (ix1 e) := by
  refine Eq.trans ?_ (V_bias m c e)
  blk_ext [iblk, idx t]

/-- THE LOGITS OF A POINT: column `i` of point `t` holds the logits of token `1024 (t % 8) + i` of group `t / 8`. -/
theorem col_logit (c : Dev nD) (t : Fin cfg0.N) (i : Fin 1024) (g : Fin 4) (l : Fin 8192)
    (hg : g.val = t.val / 8) (hl : l.val = t.val % 8 * 1024 + i.val) :
    Block.col (iblk m c 2 t) (iblk m c 0 t) (iblk m c 1 t) (iblk m c 3 t) i = logit (X m c) (W m c) (B m c) g l := by
  funext e
  rw [Block.col_eq, blk3]
  unfold logit
  congr 1
  split
  · refine Finset.sum_congr rfl fun k _ => ?_
    rw [blk2, blk0 m c t _ k g l hg hl, mul_comm]
  · refine Finset.sum_congr rfl fun k _ => ?_
    rw [blk2, blk1 m c t _ k g l hg (by simp only; omega), mul_comm]

end Cert.KernelIdeal.Geometry

end
-- ==== Proof.Arrays.lean ====
/- What the kernel's three output arrays hold when the grid has run: at expert `e` and token `t` of group `g` the
   probability and the logit, and the z-loss in the one-element array. -/
module

public import proofs.«01_k».proof.Proof.Points
public import proofs.«01_k».proof.Proof.Geometry

@[expose] public section

set_option maxRecDepth 16384

noncomputable section

namespace Cert.KernelIdeal.Arrays

open Idealize.ShloMosaic Idealize.ShloMosaic.TcCoe Idealize.SL.Sem
open Cert.KernelIdeal Cert.KernelIdeal.Gen Cert.KernelIdeal.Geometry Cert.Router

variable (m : (ℓ : Loc nD τ sig) → Buf (Elt Ideal) ℓ)

/-- The transposed probabilities, as the kernel computes them: an exponential times the reciprocal of the sum. -/
def probsT (c : Dev nD) : Vec Ideal S4x64x8192 .f32 := fun j =>
  Ideal.exp (logit (X m c) (W m c) (B m c) (j 0) (j 2) (j 1) - top (logit (X m c) (W m c) (B m c) (j 0) (j 2)))
    * Ideal.div 1 (shiftSum (logit (X m c) (W m c) (B m c) (j 0) (j 2)))

/-- The transposed logits. -/
def logitsT (c : Dev nD) : Vec Ideal S4x64x8192 .f32 := fun j => logit (X m c) (W m c) (B m c) (j 0) (j 2) (j 1)

/-- The probabilities array: every point writes its block of it. -/
theorem probs_final (c : Dev nD) : (dats m 0 c).arrAt 4 cfg0.N = probsT m c := by
  refine (dats m 0 c).arrAt_eq_of_covers 4 _ (by decide +kernel) fun t hf y => ?_
  blk_simp
  rw [after0_4, Points.probs_after]
  change S1x64x1024.Idx at y
  have h0 : (((win0_4.blk t).view.emb y) 0).val = t.val / 8 := by blk_simp [idx t]
  have h1 : ((win0_4.blk t).view.emb y) 1 = y 1 := Fin.ext (by blk_simp [idx t])
  have h2 : (((win0_4.blk t).view.emb y) 2).val = t.val % 8 * 1024 + (y 2).val := by blk_simp [idx t]
  generalize (win0_4.blk t).view.emb y = q at h0 h1 h2 ⊢
  rw [ValueIdx.eq_ix3 y]
  refine (Block.probs_apply _ _ _ _ _ _ _).trans ?_
  rw [col_logit m c t (y 2) (q 0) (q 2) h0 h2, ← h1]
  rfl

/-- The logits array: every point writes its block of it. -/
theorem logits_final (c : Dev nD) : (dats m 0 c).arrAt 5 cfg0.N = logitsT m c := by
  refine (dats m 0 c).arrAt_eq_of_covers 5 _ (by decide +kernel) fun t hf y => ?_
  blk_simp
  rw [after0_5, Points.logits_after]
  change S1x64x1024.Idx at y
  have h0 : (((win0_5.blk t).view.emb y) 0).val = t.val / 8 := by blk_simp [idx t]
  have h1 : ((win0_5.blk t).view.emb y) 1 = y 1 := Fin.ext (by blk_simp [idx t])
  have h2 : (((win0_5.blk t).view.emb y) 2).val = t.val % 8 * 1024 + (y 2).val := by blk_simp [idx t]
  generalize (win0_5.blk t).view.emb y = q at h0 h1 h2 ⊢
  rw [ValueIdx.eq_ix3 y]
  refine (Block.logits_apply _ _ _ _ _ _ _).trans ?_
  rw [col_logit m c t (y 2) (q 0) (q 2) h0 h2, ← h1]
  rfl

/-- The grid's last point. -/
def tLast : Fin cfg0.N := ⟨31, by decide⟩

/-- The points' addends, summed over the grid, are the mean over all tokens. -/
theorem sum_parts (c : Dev nD) : ∑ t : Fin cfg0.N, Points.part m c t = zLoss (X m c) (W m c) (B m c) := by
  unfold Points.part Block.part zLoss
  rw [sum_mul_const Finset.univ _ (fun t => Finset.sum_nonneg fun i _ => sq_nonneg _), mul_word_eq_div_word]
  refine congrArg (fun s => Ideal.div s _) ?_
  refine Fin.sum_points_lanes_congr 8 fun t k ha hl => ?_
  rw [col_logit m c t k ⟨t.val / 8, ha⟩ ⟨t.val % 8 * 1024 + k.val, hl⟩ rfl rfl]

/-- The z-loss array: what the last point leaves, the sum of every point's addend. -/
theorem zloss_final (c : Dev nD) : (dats m 0 c).arrAt 6 cfg0.N = fun _ => zLoss (X m c) (W m c) (B m c) := by
  refine (dats m 0 c).arrAt_eq_of_after_last 6 tLast (by decide +kernel) _ fun j => ?_
  blk_simp
  rw [after0_6, Pipeline.eq_sum_fin_of_reset_step_apply_last (fun n h => (outsAt0 m c n h).2.2) 32
    (fun _ => (0 : EReal)) (fun t _ => Points.part m c t) (fun t h j => Points.zloss_first m c t h j)
    (fun t h j => Points.zloss_later m c t h j) (le_of_eq N_0) tLast N_0.symm _, zero_add]
  exact sum_parts m c

end Cert.KernelIdeal.Arrays

end
-- ==== Proof.KernelRun.lean ====
/- THE KERNEL'S RUN: the three results after the host's transposes and reshape, and the arguments unchanged. -/
module

public import proofs.«01_k».proof.Proof.Arrays

@[expose] public section

set_option maxRecDepth 16384

noncomputable section

namespace Cert.KernelIdeal.KernelRun

open Idealize.ShloMosaic Idealize.ShloMosaic.TcCoe Idealize.SL.Sem
open Cert.KernelIdeal Cert.KernelIdeal.Gen Cert.KernelIdeal.Geometry Cert.Router

variable (m : (ℓ : Loc nD τ sig) → Buf (Elt Ideal) ℓ)

/-- The kernel's probabilities: at group `g`, token `t` and expert `e` an exponential times the reciprocal of the sum. -/
def probs (c : Dev nD) : Vec Ideal S4x8192x64 .f32 := fun j =>
  Ideal.exp (logit (X m c) (W m c) (B m c) (j 0) (j 1) (j 2) - top (logit (X m c) (W m c) (B m c) (j 0) (j 1)))
    * Ideal.div 1 (shiftSum (logit (X m c) (W m c) (B m c) (j 0) (j 1)))

/-- The kernel's logits. -/
def logits (c : Dev nD) : Vec Ideal S4x8192x64 .f32 := fun j => logit (X m c) (W m c) (B m c) (j 0) (j 1) (j 2)

/-- The kernel's z-loss. -/
def zloss (c : Dev nD) : Vec Ideal S_ .f32 := fun _ => zLoss (X m c) (W m c) (B m c)

/-- The buffers when the grid has run: the output arrays at what the points wrote. -/
theorem exit_array (c : Dev nD) (w : Fin cfg0.W) :
    Pipeline.withArrays cfg0.spec c (V0 m c) (fun w => (dats m 0 c).arrAt w cfg0.N) (Proc.devRef .tc (Pipeline.arrRef cfg0.spec w))
      = (dats m 0 c).arrAt w cfg0.N :=
  (dats m 0 c).withArrays_arrAt sharedIn0 (V0 m c) (fun w => A_eq m c w) w

/-- The first result is the transposed probabilities array. -/
theorem tail_probs (c : Dev nD) : Pipeline.afterTail₀ cfgs (dats m) 0 (V0 m) [hostOps1] c main_v3 = probs m c := by
  have h : Pipeline.afterTail₀ cfgs (dats m) 0 (V0 m) [hostOps1] c main_v3
      = transpose S4x8192x64 [0, 2, 1] ((dats m 0 c).arrAt 4 cfg0.N) transposes_S4x64x8192_S4x8192x64_0_2_1 := by
    rw [← exit_array m c 4]
    unfold Pipeline.afterTail₀
    simp only [List.flatten_cons, List.flatten_nil, List.append_nil]
    after_results
  rw [h, Arrays.probs_final]
  funext j
  pointwise
  rfl

/-- The second result is the transposed logits array. -/
theorem tail_logits (c : Dev nD) : Pipeline.afterTail₀ cfgs (dats m) 0 (V0 m) [hostOps1] c main_v4 = logits m c := by
  have h : Pipeline.afterTail₀ cfgs (dats m) 0 (V0 m) [hostOps1] c main_v4
      = transpose S4x8192x64 [0, 2, 1] ((dats m 0 c).arrAt 5 cfg0.N) transposes_S4x64x8192_S4x8192x64_0_2_1 := by
    rw [← exit_array m c 5]
    unfold Pipeline.afterTail₀
    simp only [List.flatten_cons, List.flatten_nil, List.append_nil]
    after_results
  rw [h, Arrays.logits_final]
  funext j
  pointwise
  rfl

/-- The third result is the z-loss array's one element. -/
theorem tail_zloss (c : Dev nD) : Pipeline.afterTail₀ cfgs (dats m) 0 (V0 m) [hostOps1] c main_v5 = zloss m c := by
  have h : Pipeline.afterTail₀ cfgs (dats m) 0 (V0 m) [hostOps1] c main_v5
      = shapeCast S_ ((dats m 0 c).arrAt 6 cfg0.N) shapeCasts_S1_S_ := by
    rw [← exit_array m c 6]
    unfold Pipeline.afterTail₀
    simp only [List.flatten_cons, List.flatten_nil, List.append_nil]
    after_results
    rfl
  rw [h, Arrays.zloss_final]
  rfl

/-- Every execution ends with the three results as above and the arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v3) = probs m c
      ∧ r.2.mem ((c.tc : Thread nD τ).loc main_v4) = logits m c
      ∧ r.2.mem ((c.tc : Thread nD τ).loc main_v5) = zloss m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  θ_run_mono (θ_run_and (run_main m ρ) (unchanged m ρ)) fun _ h c =>
    ⟨((h.1 c).2 main_v3 (Pipeline.mem_restRefs_of main_v3 (by decide) (by decide))).trans (tail_probs m c),
      ((h.1 c).2 main_v4 (Pipeline.mem_restRefs_of main_v4 (by decide) (by decide))).trans (tail_logits m c),
      ((h.1 c).2 main_v5 (Pipeline.mem_restRefs_of main_v5 (by decide) (by decide))).trans (tail_zloss m c),
      h.2 c⟩

end Cert.KernelIdeal.KernelRun

end
-- ==== Proof.Reference.lean ====
/- What the reference's results hold, index by index: softmax of the logits, the logits, and the mean of the squared
   log-sum-exp. -/
module

public import proofs.«01_k».proof.Proof.Spec
public import proofs.«01_k».proof.Proof.Gen.ReferenceIdeal.Run
public import Idealize.ShloMosaic.Lib.Pointwise

@[expose] public section

set_option maxRecDepth 16384

noncomputable section

namespace Cert.ReferenceIdeal.Reading

open Idealize.ShloMosaic Idealize.ShloMosaic.TcCoe Idealize.SL.Sem
open Cert.ReferenceIdeal Cert.ReferenceIdeal.Gen Cert.Router

variable (x : FVec Ideal S4x8192x4096 .f32) (w : FVec Ideal S4096x64 .f32) (b : FVec Ideal S64 .f32)

/-- The reference's logits array. -/
def logits : FVec Ideal S4x8192x64 .f32 :=
  addf (Host.dotGeneral dot_S4x8192x4096_S4096x64_S4x8192x64_2_0_01_1_n_n none x w)
    (broadcastInDim S4x8192x64 ![0, 1, 2] bcast_S1x1x64_S4x8192x64_0_1_2 (broadcastInDim S1x1x64 ![2] bcast_S64_S1x1x64_2 b))

/-- It holds the logits. -/
theorem logits_apply (g : Fin 4) (t : Fin 8192) (e : Fin 64) : logits x w b (ix3 g t e) = logit x w b g t e := by
  unfold logits logit
  pointwise

variable (L : FVec Ideal S4x8192x64 .f32)

/-- Each token's greatest logit, as the reference takes it. -/
def maxes : FVec Ideal S4x8192 .f32 :=
  maximumf (broadcastInDim S4x8192 ![] bcast_S_S4x8192 (constant S_ .f32 0xFF800000#32))
    (Host.reduce FloatOps.maximumf L (constant S_ .f32 0xFF800000#32) reducesTo_S4x8192x64_S4x8192_d2 h_S_)

theorem maxes_apply (g : Fin 4) (t : Fin 8192) : maxes L (ix2 g t) = top fun e => L (ix3 g t e) := by
  unfold maxes top
  pointwise
  rw [word_neg_inf]
  exact max_eq_right bot_le

/-- The exponentials of the logits less their token's greatest. -/
def exps : FVec Ideal S4x8192x64 .f32 :=
  Host.exp (subf L (broadcastInDim S4x8192x64 ![0, 1, 2] bcast_S4x8192x1_S4x8192x64_0_1_2
    (broadcastInDim S4x8192x1 ![0, 1] bcast_S4x8192_S4x8192x1_0_1 (maxes L))))

theorem exps_apply (g : Fin 4) (t : Fin 8192) (e : Fin 64) :
    exps L (ix3 g t e) = Ideal.exp (L (ix3 g t e) - top fun e => L (ix3 g t e)) := by
  rw [← maxes_apply]
  unfold exps
  pointwise

/-- The reference's probabilities array. -/
def probs : FVec Ideal S4x8192x64 .f32 :=
  Host.divf (exps L) (broadcastInDim S4x8192x64 ![0, 1, 2] bcast_S4x8192x1_S4x8192x64_0_1_2
    (broadcastInDim S4x8192x1 ![0, 1] bcast_S4x8192_S4x8192x1_0_1
      (Host.reduceAdd (exps L) (constant S_ .f32 0x00000000#32) reducesTo_S4x8192x64_S4x8192_d2 h_S_)))

/-- It holds each token's softmax. -/
theorem probs_apply (g : Fin 4) (t : Fin 8192) (e : Fin 64) : probs L (ix3 g t e) = prob (fun e => L (ix3 g t e)) e := by
  unfold probs prob shiftSum
  pointwise
  rw [exps_apply, Finset.sum_congr rfl fun k _ => exps_apply L g t k]

/-- Each token's log-sum-exp. -/
def logZs : FVec Ideal S4x8192 .f32 :=
  Host.log (Host.reduceAdd (Host.exp L) (constant S_ .f32 0x00000000#32) reducesTo_S4x8192x64_S4x8192_d2 h_S_)

theorem logZs_apply (g : Fin 4) (t : Fin 8192) : logZs L (ix2 g t) = logZ fun e => L (ix3 g t e) := by
  unfold logZs logZ
  pointwise

/-- The reference's z-loss. -/
def zloss : FVec Ideal S_ .f32 :=
  Host.divf (Host.reduceAdd (mulf (logZs L) (logZs L)) (constant S_ .f32 0x00000000#32) reducesTo_S4x8192_S_d0_1 h_S_)
    (constant S_ .f32 0x47000000#32)

theorem zloss_apply (j : S_.Idx) : zloss (logits x w b) j = zLoss x w b := by
  unfold zloss zLoss
  pointwise
  rw [Finset.sum_congr rfl fun g _ => Finset.sum_congr rfl fun t _ => by rw [logZs_apply]]
  simp only [logits_apply]

/-- THE REFERENCE'S RUN: it ends with the three arrays above, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14) = probs (logits (m ((c.tc : Thread nD τ).loc main_arg0))
        (m ((c.tc : Thread nD τ).loc main_arg2)) (m ((c.tc : Thread nD τ).loc main_arg3)))
      ∧ r.2.mem ((c.tc : Thread nD τ).loc main_v3) = logits (m ((c.tc : Thread nD τ).loc main_arg0))
        (m ((c.tc : Thread nD τ).loc main_arg2)) (m ((c.tc : Thread nD τ).loc main_arg3))
      ∧ r.2.mem ((c.tc : Thread nD τ).loc main_v20) = zloss (logits (m ((c.tc : Thread nD τ).loc main_arg0))
        (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Value.run m ρ

end Cert.ReferenceIdeal.Reading

end
-- ==== Proof.Finite.lean ====
/- THE CONDITIONS READ: what `finite_inputs` and `finite_tokens` say of the arguments, over the extended reals. -/
module

public import proofs.«01_k».proof.Proof.Spec
public import proofs.«01_k».proof.Pre_finite_inputs
public import proofs.«01_k».proof.On_finite_tokens
public import Idealize.ShloMosaic.Lib.ReduceAll

@[expose] public section

noncomputable section

namespace Cert.Finite

open Idealize.ShloMosaic Cert.Router

/-- The shapes of `finite_inputs` fit. -/
instance inputsFacts : Cert.Pre_finite_inputs.Facts where
  bcast_S_S4x8192x4096 := by decide
  reducesTo_S4x8192x4096_S_d0_1_2 := by decide
  h_S_ := by decide
  bcast_S_S4096x64 := by decide
  reducesTo_S4096x64_S_d0_1 := by decide
  bcast_S_S64 := by decide
  reducesTo_S64_S_d0 := by decide

/-- The shapes of `finite_tokens` fit. -/
instance tokensFacts : Cert.On_finite_tokens.Facts where
  bcast_S_S4x8192x4096 := by decide
  reducesTo_S4x8192x4096_S4x8192_d2 := by decide
  h_S_ := by decide
  bcast_S_S4096x64 := by decide
  reducesTo_S4096x64_S_d0_1 := by decide
  bcast_S_S64 := by decide
  reducesTo_S64_S_d0 := by decide
  bcast_S_S4x8192 := by decide
  bcast_S4x8192_S4x8192x1_0_1 := by decide
  bcast_S4x8192x1_S4x8192x64_0_1_2 := by decide
  bcast_S_S4x8192x64 := by decide

/-- An extended real whose absolute value is below +∞ is a real number. -/
theorem real_of_abs_lt {y : EReal} (h : max y (-y) < ⊤) : ∃ r : ℝ, y = r :=
  exists_real (fun e => by simp [e] at h) fun e => by simp [e] at h

/-- An element that passes the test `|x| < inf` is a real number. -/
theorem real_of_test {s : Shape} (x : FVec Ideal s .f32) (hb : (⟨0, ![]⟩ : Shape).BroadcastsInDim s (![] : Fin 0 → Fin s.rank))
    (i : s.Idx) (h : cmpf .olt (Host.absf x) (broadcastInDim s ![] hb (constant (F := Ideal) ⟨0, ![]⟩ .f32 0x7F800000#32)) i = 1#1) :
    ∃ r : ℝ, x i = r := by
  change BitVec.ofBool (decide (max (x i) (-(x i)) < Ideal.ofBits .f32 0x7F800000#32)) = 1#1 at h
  rw [word_inf] at h
  refine real_of_abs_lt ?_
  by_contra hn
  rw [decide_eq_false hn] at h
  exact absurd h (by decide)

variable (x : FVec Ideal ⟨3, ![4, 8192, 4096]⟩ .f32) (cap : IVec ⟨0, ![]⟩ 32) (w : FVec Ideal ⟨2, ![4096, 64]⟩ .f32)
  (b : FVec Ideal ⟨1, ![64]⟩ .f32)

/-- Where `finite_inputs` holds, every entry of the three float arguments is a real number. -/
theorem inputs_real (h : Cert.Pre_finite_inputs.fn (F := Ideal) x cap w b = fun _ => 1#1) :
    (∀ i, ∃ r : ℝ, x i = r) ∧ (∀ i, ∃ r : ℝ, w i = r) ∧ ∀ i, ∃ r : ℝ, b i = r := by
  have h0 := congrFun h ix0
  dsimp only [Cert.Pre_finite_inputs.fn] at h0
  obtain ⟨hxw, hb⟩ := IntOp.andi_eq_one.1 h0
  obtain ⟨hx, hw⟩ := IntOp.andi_eq_one.1 hxw
  exact ⟨fun i => real_of_test x _ i (Host.reduce_andi_all _ _ _ _ _ hx i),
    fun i => real_of_test w _ i (Host.reduce_andi_all _ _ _ _ _ hw i),
    fun i => real_of_test b _ i (Host.reduce_andi_all _ _ _ _ _ hb i)⟩

/-- Where `finite_tokens` selects a probability, its token's inputs are real numbers, and so are all weights and biases. -/
theorem tokens_real (g : Fin 4) (t : Fin 8192) (e : Fin 64)
    (h : (Cert.On_finite_tokens.fn (F := Ideal) x cap w b).1 (ix3 g t e) = 1#1) :
    (∀ k, ∃ r : ℝ, x (ix3 g t k) = r) ∧ (∀ i, ∃ r : ℝ, w i = r) ∧ ∀ i, ∃ r : ℝ, b i = r := by
  dsimp only [Cert.On_finite_tokens.fn, Cert.On_finite_tokens.fn_part1] at h
  obtain ⟨hx, hwb⟩ := IntOp.andi_eq_one.1 h
  obtain ⟨hw, hb⟩ := IntOp.andi_eq_one.1 hwb
  refine ⟨fun k => real_of_test x _ _ (Host.reduce_andi_eq_one _ _ _ _ _ hx (ix3 g t k) ?_),
    fun i => real_of_test w _ i (Host.reduce_andi_all _ _ _ _ _ hw i),
    fun i => real_of_test b _ i (Host.reduce_andi_all _ _ _ _ _ hb i)⟩
  funext a
  fin_cases a <;> rfl

end Cert.Finite

end
-- ==== Proof.Equation.lean ====
/- THE EQUATION: the kernel's three results are the reference's. -/
module

public import proofs.«01_k».proof.Proof.KernelRun
public import proofs.«01_k».proof.Proof.Reference
public import proofs.«01_k».proof.Proof.Finite

@[expose] public section

noncomputable section

namespace Cert.Equation

open Idealize.ShloMosaic Idealize.ShloMosaic.TcCoe Cert.KernelIdeal Cert.KernelIdeal.Geometry Cert.Router
open Cert.ReferenceIdeal.Reading renaming logits → refLogits, probs → refProbs, zloss → refZloss
open Cert.ReferenceIdeal.Reading (logits_apply probs_apply zloss_apply)

variable (m : (ℓ : Loc nD τ sig) → Buf (Elt Ideal) ℓ) (c : Dev nD)

/-- The logits are the reference's, whatever the arguments hold. -/
theorem logits_eq : KernelRun.logits m c = refLogits (X m c) (W m c) (B m c) := by
  funext j
  obtain ⟨g, t, e, rfl⟩ : ∃ g t e, j = ix3 g t e := ⟨_, _, _, ValueIdx.eq_ix3 j⟩
  exact (logits_apply (X m c) (W m c) (B m c) g t e).symm

/-- The z-loss is the reference's, whatever the arguments hold. -/
theorem zloss_eq : KernelRun.zloss m c = refZloss (refLogits (X m c) (W m c) (B m c)) :=
  funext fun j => (zloss_apply (X m c) (W m c) (B m c) j).symm

/-- The probabilities of a token whose logits are real numbers are the reference's. -/
theorem probs_eq_at (g : Fin 4) (t : Fin 8192) (e : Fin 64) (hx : ∀ k, ∃ r : ℝ, X m c (ix3 g t k) = (r : EReal))
    (hw : ∀ i, ∃ r : ℝ, W m c i = (r : EReal)) (hb : ∀ i, ∃ r : ℝ, B m c i = (r : EReal)) :
    KernelRun.probs m c (ix3 g t e)
      = refProbs (refLogits (X m c) (W m c) (B m c)) (ix3 g t e) := by
  have hL : (fun e => refLogits (X m c) (W m c) (B m c) (ix3 g t e)) = logit (X m c) (W m c) (B m c) g t :=
    funext fun e => logits_apply (X m c) (W m c) (B m c) g t e
  rw [probs_apply, hL]
  exact mul_recip_eq_prob _ (logit_real _ _ _ g t hx (fun k e => hw _) fun e => hb _) e

/-- Of real arguments the probabilities are the reference's. -/
theorem probs_eq (hx : ∀ i, ∃ r : ℝ, X m c i = (r : EReal)) (hw : ∀ i, ∃ r : ℝ, W m c i = (r : EReal))
    (hb : ∀ i, ∃ r : ℝ, B m c i = (r : EReal)) :
    KernelRun.probs m c = refProbs (refLogits (X m c) (W m c) (B m c)) := by
  funext j
  obtain ⟨g, t, e, rfl⟩ : ∃ g t e, j = ix3 g t e := ⟨_, _, _, ValueIdx.eq_ix3 j⟩
  exact probs_eq_at m c g t e (fun k => hx _) hw hb

/-- Where `finite_tokens` selects a probability, it is the reference's. -/
theorem probs_eq_on (cap : IVec ⟨0, ![]⟩ 32) (j : S4x8192x64.Idx)
    (h : (Cert.On_finite_tokens.fn (F := Ideal) (X m c) cap (W m c) (B m c)).1 j = 1#1) :
    KernelRun.probs m c j
      = refProbs (refLogits (X m c) (W m c) (B m c)) j := by
  obtain ⟨g, t, e, rfl⟩ : ∃ g t e, j = ix3 g t e := ⟨_, _, _, ValueIdx.eq_ix3 j⟩
  obtain ⟨hx, hw, hb⟩ := Cert.Finite.tokens_real (X m c) cap (W m c) (B m c) g t e h
  exact probs_eq_at m c g t e hx hw hb

end Cert.Equation

end
-- ==== Proof.lean ====
/- THE PROOF of `Cert.Claim`: the frames, the identity of the kernel with its ideal reading, and the two value claims
   (`finite_inputs`: all three results of real arguments; `finite_tokens`: the logits and the z-loss of any arguments,
   and the probabilities token by token), each from the kernel's run, the reference's run and the equation between them. -/
module

public import proofs.«01_k».proof.Defs
public import proofs.«01_k».proof.Proof.Gen.Kernel.Frame
public import proofs.«01_k».proof.Proof.Gen.KernelIdeal.Frame
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem

/-- The reference ends with its arguments unchanged and, declaring no semaphore, with every counter at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩
      fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3)
            = m ((c.tc : Thread Cert.ReferenceIdeal.nD Cert.ReferenceIdeal.τ).loc Cert.ReferenceIdeal.main_arg3))
        ∧ r.2.sem = fun _ => 0 :=
  θ_run_mono (Cert.ReferenceIdeal.Reading.run m ρ) fun r h => ⟨fun c => (h c).2.2.2, sem_eq_zero_of_no_sems (by decide) r.2⟩

/-- Of arguments that are real numbers, the kernel and the reference end with the same three results. -/
theorem value_finite_inputs : Cert.algebraic_KernelIdeal_ReferenceIdeal_pre_finite_inputs := by
  intro m ρ m' ρ' hpre hagree
  refine ⟨Cert.KernelIdeal.KernelRun.probs m, Cert.KernelIdeal.KernelRun.logits m, Cert.KernelIdeal.KernelRun.zloss m,
    Cert.KernelIdeal.KernelRun.run m ρ, θ_run_mono (Cert.ReferenceIdeal.Reading.run m' ρ') fun r h c => ?_⟩
  obtain ⟨hp, hl, hz, hargs⟩ := h c
  obtain ⟨h0, -, h2, h3⟩ := hagree c
  rw [h0, h2, h3] at hp hl hz
  obtain ⟨hx, hw, hb⟩ := Cert.Finite.inputs_real _ _ _ _ (hpre c)
  exact ⟨hp.trans (Cert.Equation.probs_eq m c hx hw hb).symm, hl.trans (Cert.Equation.logits_eq m c).symm,
    hz.trans (Cert.Equation.zloss_eq m c).symm, hargs⟩

/-- Of any arguments, the kernel and the reference end with the same logits and z-loss, and with the same
    probabilities at every token whose inputs, with all weights and biases, are real numbers. -/
theorem value_finite_tokens : Cert.algebraic_KernelIdeal_ReferenceIdeal_on_finite_tokens := by
  intro m ρ m' ρ' _ hagree
  refine ⟨Cert.KernelIdeal.KernelRun.probs m, Cert.KernelIdeal.KernelRun.logits m, Cert.KernelIdeal.KernelRun.zloss m,
    θ_run_mono (Cert.KernelIdeal.KernelRun.run m ρ) fun r h c => ?_,
    θ_run_mono (Cert.ReferenceIdeal.Reading.run m' ρ') fun r h c => ?_⟩
  · obtain ⟨hp, hl, hz, hargs⟩ := h c
    exact ⟨fun i _ => congrFun hp i, fun i _ => congrFun hl i, fun i _ => congrFun hz i, hargs⟩
  · obtain ⟨hp, hl, hz, hargs⟩ := h c
    obtain ⟨h0, -, h2, h3⟩ := hagree c
    rw [h0, h2, h3] at hp hl hz
    exact ⟨fun i hi => (congrFun hp i).trans (Cert.Equation.probs_eq_on m c _ i hi).symm,
      fun i _ => congrFun (hl.trans (Cert.Equation.logits_eq m c).symm) i,
      fun i _ => congrFun (hz.trans (Cert.Equation.zloss_eq m c).symm) i, hargs⟩

/-- Everything stated of the kernel. -/
theorem claim : Cert.Claim :=
  ⟨Cert.Kernel.Gen.facts, Cert.KernelIdeal.Gen.facts, Cert.ReferenceIdeal.Gen.facts, Cert.Finite.inputsFacts, Cert.Finite.tokensFacts,
    fun m ρ _ => Cert.Kernel.Gen.frame m ρ, fun m ρ _ => Cert.KernelIdeal.Gen.frame m ρ, fun m ρ _ => Cert.KernelIdeal.Gen.frame m ρ,
    fun m ρ _ => reference_frame m ρ, fun m ρ _ => reference_frame m ρ, trivial, value_finite_inputs, value_finite_tokens⟩

end Cert.Proof

end
